-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x16 : Shape := ⟨2, ![16384, 16]⟩
abbrev S16x32 : Shape := ⟨2, ![16, 32]⟩
abbrev S512x256 : Shape := ⟨2, ![512, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S16x16384 : Shape := ⟨2, ![16, 16384]⟩
abbrev S4x256 : Shape := ⟨2, ![4, 256]⟩
abbrev S4x16384 : Shape := ⟨2, ![4, 16384]⟩
abbrev S16384x4 : Shape := ⟨2, ![16384, 4]⟩
abbrev S256x1 : Shape := ⟨2, ![256, 1]⟩
abbrev S4x1 : Shape := ⟨2, ![4, 1]⟩
abbrev S1x256 : Shape := ⟨2, ![1, 256]⟩
abbrev S32x256 : Shape := ⟨2, ![32, 256]⟩
abbrev S16x256 : Shape := ⟨2, ![16, 256]⟩
abbrev S1x4 : Shape := ⟨2, ![1, 4]⟩
abbrev S16x1x16384 : Shape := ⟨3, ![16, 1, 16384]⟩
abbrev S16x16x16384 : Shape := ⟨3, ![16, 16, 16384]⟩
abbrev S256x16384 : Shape := ⟨2, ![256, 16384]⟩

abbrev nBuf : Space → Nat
  | .hbm => 12
  | .vmem => 14
  | .smem => 0
  | _ => 0

abbrev bufTy : (tb : Table) → Fin (tcTables nBuf tb) → BufTy
  | .hbm, ⟨0, _⟩ => ⟨S16384x16, .i32⟩
  | .hbm, ⟨1, _⟩ => ⟨S16x32, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x4, .f32⟩
  | .hbm, ⟨7, _⟩ => ⟨S4, .f32⟩
  | .hbm, ⟨8, _⟩ => ⟨S16x16384, .i32⟩
  | .hbm, ⟨9, _⟩ => ⟨S4x256, .f32⟩
  | .hbm, ⟨10, _⟩ => ⟨S4x16384, .f32⟩
  | .hbm, ⟨11, _⟩ => ⟨S16384x4, .f32⟩
  | .local _ .vmem, ⟨0, _⟩ => ⟨S16x16384, .i32⟩
  | .local _ .vmem, ⟨1, _⟩ => ⟨S16x32, .f32⟩
  | .local _ .vmem, ⟨2, _⟩ => ⟨S512x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S4x256, .f32⟩
  | .local _ .vmem, ⟨7, _⟩ => ⟨S4, .f32⟩
  | .local _ .vmem, ⟨8, _⟩ => ⟨S4x16384, .f32⟩
  | .local _ .vmem, ⟨9, _⟩ => ⟨S256x256, .f32⟩
  | .local _ .vmem, ⟨10, _⟩ => ⟨S256x256, .bf16⟩
  | .local _ .vmem, ⟨11, _⟩ => ⟨S256x256, .bf16⟩
  | .local _ .vmem, ⟨12, _⟩ => ⟨S256x1, .f32⟩
  | .local _ .vmem, ⟨13, _⟩ => ⟨S4x1, .f32⟩
  | _, _ => ⟨S16384x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceIdeal.lean ====
abbrev S16384x16 : Shape := ⟨2, ![16384, 16]⟩
abbrev S16x32 : Shape := ⟨2, ![16, 32]⟩
abbrev S512x256 : Shape := ⟨2, ![512, 256]⟩
abbrev S256 : Shape := ⟨1, ![256]⟩
abbrev S256x256 : Shape := ⟨2, ![256, 256]⟩
abbrev S256x4 : Shape := ⟨2, ![256, 4]⟩
abbrev S4 : Shape := ⟨1, ![4]⟩
abbrev S_ : Shape := ⟨0, ![]⟩
abbrev S16384x16x1 : Shape := ⟨3, ![16384, 16, 1]⟩
abbrev S1 : Shape := ⟨1, ![1]⟩
abbrev S1x1x1 : Shape := ⟨3, ![1, 1, 1]⟩
abbrev S16384x16x32 : Shape := ⟨3, ![16384, 16, 32]⟩
abbrev S16384x512 : Shape := ⟨2, ![16384, 512]⟩
abbrev S16384x256 : Shape := ⟨2, ![16384, 256]⟩
abbrev S1x256 : Shape := ⟨2, ![1, 256]⟩
abbrev S16384x4 : Shape := ⟨2, ![16384, 4]⟩
abbrev S1x4 : Shape := ⟨2, ![1, 4]⟩

abbrev nBuf : Space → Nat
  | .hbm => 58
  | .vmem => 0
  | .smem => 0
  | _ => 0

abbrev bufTy : (tb : Table) → Fin (tcTables nBuf tb) → BufTy
  | .hbm, ⟨0, _⟩ => ⟨S16384x16, .i32⟩
  | .hbm, ⟨1, _⟩ => ⟨S16x32, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x4, .f32⟩
  | .hbm, ⟨7, _⟩ => ⟨S4, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S16384x16, .i32⟩
  | .hbm, ⟨12, _⟩ => ⟨S16384x16, .i32⟩
  | .hbm, ⟨13, _⟩ => ⟨S_, .i32⟩
  | .hbm, ⟨14, _⟩ => ⟨S16384x16, .i32⟩
  | .hbm, ⟨15, _⟩ => ⟨S16384x16, .i32⟩
  | .hbm, ⟨16, _⟩ => ⟨S_, .i32⟩
  | .hbm, ⟨17, _⟩ => ⟨S16384x16, .i32⟩
  | .hbm, ⟨18, _⟩ => ⟨S16384x16, .i1⟩
  | .hbm, ⟨19, _⟩ => ⟨S_, .i32⟩
  | .hbm, ⟨20, _⟩ => ⟨S16384x16, .i32⟩
  | .hbm, ⟨21, _⟩ => ⟨S16384x16, .i32⟩
  | .hbm, ⟨22, _⟩ => ⟨S16384x16, .i32⟩
  | .hbm, ⟨23, _⟩ => ⟨S16384x16x1, .i32⟩
  | .hbm, ⟨24, _⟩ => ⟨S1, .i32⟩
  | .hbm, ⟨25, _⟩ => ⟨S_, .i32⟩
  | .hbm, ⟨26, _⟩ => ⟨S16384x16x1, .i32⟩
  | .hbm, ⟨27, _⟩ => ⟨S16384x16x1, .i1⟩
  | .hbm, ⟨28, _⟩ => ⟨S1x1x1, .i32⟩
  | .hbm, ⟨29, _⟩ => ⟨S16384x16x1, .i32⟩
  | .hbm, ⟨30, _⟩ => ⟨S16384x16x1, .i1⟩
  | .hbm, ⟨31, _⟩ => ⟨S16384x16x1, .i1⟩
  | .hbm, ⟨32, _⟩ => ⟨S_, .i1⟩
  | .hbm, ⟨33, _⟩ => ⟨S16384x16, .i1⟩
  | .hbm, ⟨34, _⟩ => ⟨S16384x16x32, .f32⟩
  | .hbm, ⟨35, _⟩ => ⟨S16384x16x32, .i1⟩
  | .hbm, ⟨36, _⟩ => ⟨S_, .f32⟩
  | .hbm, ⟨37, _⟩ => ⟨S16384x16x32, .f32⟩
  | .hbm, ⟨38, _⟩ => ⟨S16384x16x32, .f32⟩
  | .hbm, ⟨39, _⟩ => ⟨S16384x512, .f32⟩
  | .hbm, ⟨40, _⟩ => ⟨S16384x256, .f32⟩
  | .hbm, ⟨41, _⟩ => ⟨S1x256, .f32⟩
  | .hbm, ⟨42, _⟩ => ⟨S16384x256, .f32⟩
  | .hbm, ⟨43, _⟩ => ⟨S16384x256, .f32⟩
  | .hbm, ⟨44, _⟩ => ⟨S_, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S1x256, .f32⟩
  | .hbm, ⟨49, _⟩ => ⟨S16384x256, .f32⟩
  | .hbm, ⟨50, _⟩ => ⟨S16384x256, .f32⟩
  | .hbm, ⟨51, _⟩ => ⟨S_, .f32⟩
  | .hbm, ⟨52, _⟩ => ⟨S16384x256, .f32⟩
  | .hbm, ⟨53, _⟩ => ⟨S16384x256, .f32⟩
  | .hbm, ⟨54, _⟩ => ⟨S16384x4, .f32⟩
  | .hbm, ⟨55, _⟩ => ⟨S1x4, .f32⟩
  | .hbm, ⟨56, _⟩ => ⟨S16384x4, .f32⟩
  | .hbm, ⟨57, _⟩ => ⟨S16384x4, .f32⟩
  | _, _ => ⟨S16384x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_call2_cst : Ref sig .tc := ⟨.hbm, 44, rfl⟩
abbrev main_call2_v0 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_call3_cst : Ref sig .tc := ⟨.hbm, 51, rfl⟩
abbrev main_call3_v0 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩

abbrev nD : Nat := 1
abbrev τ : Topo := Topo.v7x

variable {F : FTy → Type} [FloatOps F]
-- ==== Proof.Words.lean ====
module

public import Idealize.ShloMosaic.Lib.Pointwise
public import Idealize.ShloMosaic.Lib.KernelVsHost

/-! The board's entries as words: what clipping to the range 0..15 gives, and what the kernel's comparison of a
    clipped entry with a row number gives. -/

@[expose] public section

noncomputable section

namespace Cert.Board

open Idealize.ShloMosaic

/-- A board entry clipped to the range 0..15, as both programs clip it. -/
abbrev clip (w : BitVec 32) : BitVec 32 := IntOp.minsi 15#32 (IntOp.maxsi 0#32 w)

/-- A clipped entry is below 16. -/
theorem clip_lt (w : BitVec 32) : (clip w).toNat < 16 := by
  unfold clip IntOp.minsi IntOp.maxsi
  split
  · decide
  · rename_i h
    revert h
    split
    · intro; decide
    · rename_i h0
      intro h
      simp only [BitVec.slt, decide_eq_true_eq, BitVec.toInt_eq_toNat_cond] at h h0
      simp at h h0
      split at h0 <;> omega

/-- A board entry as one of the table's 16 rows. -/
def code (w : BitVec 32) : Fin 16 := ⟨(clip w).toNat, clip_lt w⟩

/-- A clipped entry is the word of its row. -/
theorem clip_eq (w : BitVec 32) : clip w = BitVec.ofNat 32 (code w).val := by
  apply BitVec.eq_of_toNat_eq
  simp only [code, BitVec.toNat_ofNat]
  have := clip_lt w
  omega

/-- A row number modulo 16, as the kernel takes it of a word. -/
abbrev rem16 (k : BitVec 32) : BitVec 32 :=
  Scalar.select
    (IntOp.andi
      (IntOp.xori
        (IntOp.cmpi .slt (IntOp.remsi .vector k (Scalar.select (Scalar.cmpi .eq 16#32 0#32) 1#32 16#32)) 0#32)
        (Scalar.cmpi .slt (Scalar.select (Scalar.cmpi .eq 16#32 0#32) 1#32 16#32) 0#32))
      (IntOp.cmpi .ne (IntOp.remsi .vector k (Scalar.select (Scalar.cmpi .eq 16#32 0#32) 1#32 16#32)) 0#32))
    (IntOp.addi (IntOp.remsi .vector k (Scalar.select (Scalar.cmpi .eq 16#32 0#32) 1#32 16#32))
      (Scalar.select (Scalar.cmpi .eq 16#32 0#32) 1#32 16#32))
    (IntOp.remsi .vector k (Scalar.select (Scalar.cmpi .eq 16#32 0#32) 1#32 16#32))

/-- That is the number modulo 16, for each of the 256 rows. -/
theorem rem16_eq : ∀ k : Fin 256, rem16 (BitVec.ofNat 32 k.val) = BitVec.ofNat 32 (k.val % 16) := by
  decide +kernel

/-- Comparing an entry's row with `v` gives the bit of their equality. -/
theorem eq_bit : ∀ a v : Fin 16,
    (IntOp.cmpi .eq (BitVec.ofNat 32 a.val) (BitVec.ofNat 32 v.val)) = if a = v then 1#1 else 0#1 := by
  decide +kernel

/-- The kernel's one-hot entry for row `k` at an entry `w`: one where the entry's row is `k` modulo 16, else zero. -/
theorem hot (w : BitVec 32) (k : Fin 256) :
    (FloatOps.sitofp .f32 (BitVec.setWidth 32 (IntOp.cmpi .eq (clip w) (rem16 (BitVec.ofNat 32 k.val)))) : Ideal .f32)
      = if (code w).val = k.val % 16 then (1 : EReal) else 0 := by
  rw [clip_eq, rem16_eq, eq_bit (code w) ⟨k.val % 16, by omega⟩]
  by_cases h : (code w).val = k.val % 16
  · rw [if_pos h, if_pos (Fin.ext h)]
    show (((BitVec.setWidth 32 1#1).toInt : ℝ) : EReal) = 1
    rw [show (BitVec.setWidth 32 1#1).toInt = 1 from by decide]
    norm_num
  · rw [if_neg h, if_neg fun h' => h (congrArg Fin.val h')]
    show (((BitVec.setWidth 32 0#1).toInt : ℝ) : EReal) = 0
    rw [show (BitVec.setWidth 32 0#1).toInt = 0 from by decide]
    norm_num

/-- A clipped entry is not negative, so the reference's wrapping of negative row numbers leaves it. -/
theorem wrap (w : BitVec 32) :
    Scalar.select (IntOp.cmpi .slt (clip w) 0#32) (IntOp.addi (clip w) 16#32) (clip w) = clip w := by
  rw [clip_eq]
  exact (by decide +kernel : ∀ a : Fin 16, Scalar.select (IntOp.cmpi .slt (BitVec.ofNat 32 a.val) 0#32)
    (IntOp.addi (BitVec.ofNat 32 a.val) 16#32) (BitVec.ofNat 32 a.val) = BitVec.ofNat 32 a.val) (code w)

/-- A clipped entry is a row number of the table. -/
theorem inRange (w : BitVec 32) :
    IntOp.andi (IntOp.cmpi .sge (clip w) 0#32) (IntOp.cmpi .sle (clip w) 15#32) = 1#1 := by
  rw [clip_eq]
  exact (by decide +kernel : ∀ a : Fin 16, IntOp.andi (IntOp.cmpi .sge (BitVec.ofNat 32 a.val) 0#32)
    (IntOp.cmpi .sle (BitVec.ofNat 32 a.val) 15#32) = 1#1) (code w)

/-- Read as a signed row number and held to the table's rows, a clipped entry is its own row. -/
theorem row (w : BitVec 32) : min (clip w).toInt.toNat (16 - 1) = (code w).val := by
  rw [clip_eq]
  exact (by decide +kernel : ∀ a : Fin 16, min (BitVec.ofNat 32 a.val).toInt.toNat (16 - 1) = a.val) (code w)

end Cert.Board

end
-- ==== Proof.Net.lean ====
module

public import proofs.«01_k».proof.Proof.Words
public import Idealize.ShloMosaic.Lib.Pipeline.ValueKit
public import Idealize.ShloMosaic.Lib.IdealHost

/-! The network as plain sums over the extended reals, and why looking its first layer up in a table of row products
    gives the same numbers. -/

@[expose] public section

noncomputable section

namespace Cert.Net

open Idealize.ShloMosaic Cert.Board

/-- The hidden layer over the 512 embedding lanes of a board: lane `k` is lane `k % 32` of the table's row for cell
    `k / 32`. -/
def first (X : Fin 16384 → Fin 16 → BitVec 32) (T : Fin 16 → Fin 32 → EReal) (W : Fin 512 → Fin 256 → EReal)
    (b : Fin 256 → EReal) (n : Fin 16384) (j : Fin 256) : EReal :=
  max (∑ k : Fin 512, T (code (X n ⟨k.val / 32, by omega⟩)) ⟨k.val % 32, by omega⟩ * W k j + b j) 0

/-- The second hidden layer over the first. -/
def second (h : Fin 16384 → Fin 256 → EReal) (W : Fin 256 → Fin 256 → EReal) (b : Fin 256 → EReal) (n : Fin 16384)
    (j : Fin 256) : EReal :=
  max (∑ k, h n k * W k j + b j) 0

/-- The four outputs over the second hidden layer. -/
def last (h : Fin 16384 → Fin 256 → EReal) (W : Fin 256 → Fin 4 → EReal) (b : Fin 4 → EReal) (n : Fin 16384)
    (j : Fin 4) : EReal :=
  ∑ k, h n k * W k j + b j

/-- The constant by which the kernel scales the first layer's bias. -/
abbrev sixteenth : EReal := Ideal.ofBits .f32 0x3D800000#32

/-- It is a sixteenth. -/
theorem sixteenth_eq : sixteenth = ((1 / 16 : ℝ) : EReal) := by
  simp [Ideal.ofBits, Ideal.ieee, -EReal.coe_mul]
  norm_num

/-- Sixteen shares of a bias, each the bias times a sixteenth, make the bias: also where it is infinite. -/
theorem sum_shares (x : EReal) : ∑ _p : Fin 16, x * sixteenth = x := by
  rw [Finset.sum_const, Finset.card_univ, Fintype.card_fin, EReal.nsmul_eq_mul, sixteenth_eq, mul_left_comm,
    show ((16 : ℕ) : EReal) * ((1 / 16 : ℝ) : EReal) = 1 from by
      rw [show ((16 : ℕ) : EReal) = ((16 : ℝ) : EReal) from by norm_cast, ← EReal.coe_mul]; norm_num, mul_one]

/-- Row `r` of the kernel's table: the product of the embedding of `r % 16` with cell `r / 16`'s slab of the weights, and
    a sixteenth of the bias. -/
def table (T : Fin 16 → Fin 32 → EReal) (W : Fin 512 → Fin 256 → EReal) (b : Fin 256 → EReal) (r : Fin 256)
    (j : Fin 256) : EReal :=
  ∑ e : Fin 32, T ⟨r.val % 16, by omega⟩ e * W ⟨r.val / 16 * 32 + e.val, by omega⟩ j + b j * sixteenth

/-- A sum over the table's 256 rows against a board's one-hot column keeps one row for each of the 16 cells. -/
theorem sum_hot (f : Fin 16 → Fin 16 → EReal) (q : Fin 16 → Fin 16) :
    ∑ r : Fin 256, f ⟨r.val / 16, by omega⟩ ⟨r.val % 16, by omega⟩
        * (if (q ⟨r.val / 16, by omega⟩).val = r.val % 16 then (1 : EReal) else 0)
      = ∑ p, f p (q p) := by
  refine (Fin.sum_divmod_fin (N := 256) (A := 16) 16
    fun p v => f p v * (if (q p).val = v.val then (1 : EReal) else 0)).trans ?_
  refine Finset.sum_congr rfl fun p _ => ?_
  simp only [mul_ite, mul_one, mul_zero, ← Fin.ext_iff]
  exact (Finset.sum_ite_eq Finset.univ (q p) fun v => f p v).trans (if_pos (Finset.mem_univ _))

/-- The first layer looked up in the table is the first layer. -/
theorem first_eq (X : Fin 16384 → Fin 16 → BitVec 32) (T : Fin 16 → Fin 32 → EReal) (W : Fin 512 → Fin 256 → EReal)
    (b : Fin 256 → EReal) (n : Fin 16384) (j : Fin 256) :
    max (∑ r : Fin 256, table T W b r j
        * (if (code (X n ⟨r.val / 16, by omega⟩)).val = r.val % 16 then (1 : EReal) else 0)) 0
      = first X T W b n j := by
  unfold first table
  congr 1
  refine (sum_hot (fun p v => ∑ e : Fin 32, T v e * W ⟨p.val * 32 + e.val, by omega⟩ j + b j * sixteenth)
    fun p => code (X n p)).trans ?_
  rw [Finset.sum_add_distrib, sum_shares]
  congr 1
  refine (Fin.sum_mul_add_congr (fun p e hl => ?_))
  have hp : (p.val * 32 + e.val) / 32 = p.val := by omega
  have he : (p.val * 32 + e.val) % 32 = e.val := by omega
  simp only [hp, he, Fin.eta]

end Cert.Net

end
-- ==== Proof.Table.lean ====
module

public import proofs.«01_k».proof.Proof.Gen.KernelIdeal.Frame
public import proofs.«01_k».proof.Proof.Net
public import Idealize.ShloMosaic.Lib.Pipeline.ReadBack
public import Idealize.ShloMosaic.Lib.Pointwise

/-! The kernel's table of row products: what one of its 16 stores puts there, and that the 16 stores together are the
    whole table. -/

@[expose] public section

set_option maxRecDepth 16384

noncomputable section

namespace Cert.KernelIdeal.Value

open Idealize.ShloMosaic Idealize.ShloMosaic.TcCoe Idealize.SL.Sem
open Cert.KernelIdeal Cert.KernelIdeal.Gen

/-- What one store puts into the table, over its slab `S` of the weights: the products of the 16 embeddings with the slab,
    and a share of the bias. -/
theorem slab_at (T : Vec Ideal S16x32 .f32) (b : Vec Ideal S256 .f32) (S : Vec Ideal S32x256 .f32) (x : S16x256.Idx) :
    k0_pay3 T b S x = ∑ e : Fin 32, T (ix2 (x 0) e) * S (ix2 e (x 1)) + b (ix1 (x 1)) * Net.sixteenth := by
  pointwise [k0_pay3, k0_pay2]

/-- The table as an array. -/
def tableArr (T : Vec Ideal S16x32 .f32) (W : Vec Ideal S512x256 .f32) (b : Vec Ideal S256 .f32) : Vec Ideal S256x256 .f32 :=
  fun i => Net.table (fun v e => T (ix2 v e)) (fun k j => W (ix2 k j)) (fun j => b (ix1 j)) (i 0) (i 1)

/-- Cell `p`'s slab is inside the weights. -/
theorem slab_inside {p : ℕ} (hp : p < 16) (a : Fin 2) : ![32 * p, 0] a + S32x256.size a ≤ S512x256.size a := by
  match a with
  | ⟨0, _⟩ => show 32 * p + 32 ≤ 512; omega
  | ⟨1, _⟩ => exact Nat.le_refl 256

/-- Cell `p`'s rows are inside the table. -/
theorem rows_inside {p : ℕ} (hp : p < 16) (a : Fin 2) : ![16 * p, 0] a + S16x256.size a ≤ S256x256.size a := by
  match a with
  | ⟨0, _⟩ => show 16 * p + 16 ≤ 256; omega
  | ⟨1, _⟩ => exact Nat.le_refl 256

/-- A store's slab of the weights, for cell `p`, gives rows `16 p` to `16 p + 15` of the table. -/
theorem piece_at (T : Vec Ideal S16x32 .f32) (W : Vec Ideal S512x256 .f32) (b : Vec Ideal S256 .f32) (p : ℕ) (hp : p < 16)
    (x : S16x256.Idx) :
    k0_pay3 T b (View.ld W (Rect.unit (s := S512x256) ![32 * p, 0] S32x256.size (slab_inside hp))) x
      = tableArr T W b ((Rect.unit (s := S256x256) ![16 * p, 0] S16x256.size (rows_inside hp)).emb x) := by
  have hx : (x 0).val < 16 := (x 0).isLt
  rw [slab_at]
  unfold tableArr Net.table
  dsimp only
  refine congrArg₂ (· + ·) (Finset.sum_congr rfl fun e _ => congrArg₂ (· * ·) ?_ ?_) (congrArg (· * _) ?_)
  · blk_ext []
  · refine View.ld_unit_apply_of W _ _ _ _ _ fun a => ?_
    match a with
    | ⟨0, _⟩ =>
      show (16 * p + 1 * (x 0).val) / 16 * 32 + e.val = 32 * p + e.val
      omega
    | ⟨1, _⟩ =>
      show 0 + 1 * (x 1).val = 0 + (x 1).val
      omega
  · blk_ext []

/-- Stores that are blocks of one array and cover it leave that array. -/
theorem stores_make (v : View sig .tc .vmem S256x256 .f32) (G : Vec Ideal S256x256 .f32)
    (L : List (View.Piece (Elt Ideal) S256x256 .f32)) (hG : View.PiecesOf G L) (hc : ∀ y, ∃ p ∈ L, y ∈ p.1.set)
    {off : Fin 2 → ℕ} (inb : ∀ a, off a + S256x256.size a ≤ S256x256.size a) (h0 : ∀ a, off a = 0) :
    v.readCov L (Rect.unit off S256x256.size inb).toLoadRect = G := by
  have hL : View.canon L = G := funext fun y => by
    have := View.canon_append_of_piecesOf G [] L hG y (hc y)
    rwa [List.append_nil] at this
  rw [View.readCov_eq_canon', hL]
  exact View.ld_unit_lit inb G h0

end Cert.KernelIdeal.Value

end
-- ==== Proof.Body.lean ====
module

public import proofs.«01_k».proof.Proof.Table

/-! What the kernel's body computes, entry by entry, from whole arrays: the plain network, its result turned on its side. -/

@[expose] public section

set_option maxRecDepth 16384

noncomputable section

namespace Cert.KernelIdeal.Value

open Idealize.ShloMosaic Idealize.ShloMosaic.TcCoe Idealize.SL.Sem
open Cert.KernelIdeal Cert.KernelIdeal.Gen Cert.Board

/-- The body's first layer over a table: a column of the one-hot matrix picks a row of the table for each cell. -/
theorem lookup_at (X : Vec Ideal S16x16384 .i32) (U : Vec Ideal S256x256 .f32) (j : Fin 256) (n : Fin 16384) :
    k0_pay24 X (k0_pay20 U) (ix2 j n)
      = max (∑ r : Fin 256, U (ix2 r j)
          * (if (code (X (ix2 ⟨r.val / 16, by omega⟩ n))).val = r.val % 16 then (1 : EReal) else 0)) 0 := by
  pointwise [k0_pay24, k0_pay20]
  exact congrArg (max · 0) (Finset.sum_congr rfl fun r _ => congrArg (U (ix2 r j) * ·) (hot _ r))

/-- The body's first layer over the table of row products is the network's first layer. -/
theorem first_at (X : Vec Ideal S16x16384 .i32) (T : Vec Ideal S16x32 .f32) (W1 : Vec Ideal S512x256 .f32)
    (b1 : Vec Ideal S256 .f32) (j : Fin 256) (n : Fin 16384) :
    k0_pay24 X (k0_pay20 (tableArr T W1 b1)) (ix2 j n)
      = Net.first (fun n p => X (ix2 p n)) (fun v e => T (ix2 v e)) (fun k j => W1 (ix2 k j)) (fun j => b1 (ix1 j)) n j :=
  (lookup_at X (tableArr T W1 b1) j n).trans (Net.first_eq (fun n p => X (ix2 p n)) (fun v e => T (ix2 v e))
    (fun k j => W1 (ix2 k j)) (fun j => b1 (ix1 j)) n j)

/-- What the body stores, over whole arrays. -/
abbrev bodyOut (X : Vec Ideal S16x16384 .i32) (T : Vec Ideal S16x32 .f32) (W1 : Vec Ideal S512x256 .f32)
    (b1 : Vec Ideal S256 .f32) (W2 : Vec Ideal S256x256 .f32) (b2 : Vec Ideal S256 .f32) (W3t : Vec Ideal S4x256 .f32)
    (b3 : Vec Ideal S4 .f32) : Vec Ideal S4x16384 .f32 :=
  k0_pay1 (k0_pay24 X (k0_pay20 (tableArr T W1 b1))) (k0_pay21 W2) (k0_pay22 b2) W3t (k0_pay23 b3)

/-- THE BODY, entry by entry: output `i 0` of board `i 1` by the plain network, the boards and the last weights given
    transposed. -/
theorem body_at (X : Vec Ideal S16x16384 .i32) (T : Vec Ideal S16x32 .f32) (W1 : Vec Ideal S512x256 .f32)
    (b1 : Vec Ideal S256 .f32) (W2 : Vec Ideal S256x256 .f32) (b2 : Vec Ideal S256 .f32) (W3t : Vec Ideal S4x256 .f32)
    (b3 : Vec Ideal S4 .f32) (i : S4x16384.Idx) :
    bodyOut X T W1 b1 W2 b2 W3t b3 i
      = Net.last (Net.second (Net.first (fun n p => X (ix2 p n)) (fun v e => T (ix2 v e)) (fun k j => W1 (ix2 k j))
          fun j => b1 (ix1 j)) (fun k j => W2 (ix2 k j)) fun j => b2 (ix1 j)) (fun k j => W3t (ix2 j k))
          (fun j => b3 (ix1 j)) (i 1) (i 0) := by
  unfold bodyOut Net.last Net.second
  pointwise [k0_pay1, k0_pay21, k0_pay22, k0_pay23]
  exact congrArg (· + b3 (ix1 (i 0))) (Finset.sum_congr rfl fun k _ => (mul_comm _ _).trans
    (congrArg (max · 0 * W3t (ix2 (i 0) k)) (congrArg (· + b2 (ix1 k)) (Finset.sum_congr rfl fun l _ => (mul_comm _ _).trans
      (congrArg (· * W2 (ix2 l k)) (first_at X T W1 b1 l (i 1)))))))

end Cert.KernelIdeal.Value

end
-- ==== Proof.Final.lean ====
module

public import proofs.«01_k».proof.Proof.Body
public import Idealize.ShloMosaic.Lib.Claim

/-! What the kernel's arrays hold when it ends. -/

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' one block is at the origin. -/
theorem origin : ∀ t : Fin cfg0.N, win0_0.index t = ![0, 0] ∧ win0_1.index t = ![0, 0] ∧ win0_2.index t = ![0, 0]
    ∧ win0_3.index t = ![0] ∧ win0_4.index t = ![0, 0] ∧ win0_5.index t = ![0] ∧ win0_6.index t = ![0, 0]
    ∧ win0_7.index t = ![0] ∧ win0_8.index t = ![0, 0] :=
  (by decide +kernel : ∀ t : Fin grid0.N, _)

/-- After the one point the output's buffer holds the body's result over the inputs' blocks. -/
theorem left (c : Dev nD) : outsAt0 m c t0_0 = bodyOut (iblk m c 0 t0_0) (iblk m c 1 t0_0) (iblk m c 2 t0_0)
    (iblk m c 3 t0_0) (iblk m c 4 t0_0) (iblk m c 5 t0_0) (iblk m c 6 t0_0) (iblk m c 7 t0_0) := by
  unfold outsAt0 out0_A_8
  frame_open
  simp (disch := decide) only [↓ View.readCov_skip, ↓ View.readCov_cons_toLoadRect, ↓ View.readCov_fill]
  frame_out
  rw [stores_make (View.whole cc0_scratch0) (tableArr (iblk m c 1 t0_0) (iblk m c 2 t0_0) (iblk m c 3 t0_0))]
  · generalize iblk m c 1 t0_0 = T, iblk m c 2 t0_0 = W, iblk m c 3 t0_0 = b
    exact ⟨piece_at T W b 15 (by decide), piece_at T W b 14 (by decide), piece_at T W b 13 (by decide),
      piece_at T W b 12 (by decide), piece_at T W b 11 (by decide), piece_at T W b 10 (by decide),
      piece_at T W b 9 (by decide), piece_at T W b 8 (by decide), piece_at T W b 7 (by decide),
      piece_at T W b 6 (by decide), piece_at T W b 5 (by decide), piece_at T W b 4 (by decide),
      piece_at T W b 3 (by decide), piece_at T W b 2 (by decide), piece_at T W b 1 (by decide),
      piece_at T W b 0 (by decide), trivial⟩
  · exact View.cover_of_tiledL _ ![16, 256] (by sl_kernel_rfl)
  · decide

/-- The transposed result's array after the run, over the region's input arrays. -/
theorem final (c : Dev nD) : (dats m 0 c).arrAt 8 (cfgs 0).N
    = bodyOut (V m c main_call0_v0) (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) (V m c main_call0_v1) (m ((c.tc : Thread nD τ).loc main_arg7)) := by
  refine (dats m 0 c).arrAt_eq_of_after_last 8 t0_0 (by decide +kernel) _ fun j => ?_
  blk_simp
  rw [after0_8, left]
  rw [show iblk m c 0 t0_0 = V m c main_call0_v0 from by blk_ext! [iblk, origin t0_0],
    show iblk m c 1 t0_0 = m ((c.tc : Thread nD τ).loc main_arg1) from by blk_ext! [iblk, V, origin t0_0],
    show iblk m c 2 t0_0 = m ((c.tc : Thread nD τ).loc main_arg2) from by blk_ext! [iblk, V, origin t0_0],
    show iblk m c 3 t0_0 = m ((c.tc : Thread nD τ).loc main_arg3) from by blk_ext! [iblk, V, origin t0_0],
    show iblk m c 4 t0_0 = m ((c.tc : Thread nD τ).loc main_arg4) from by blk_ext! [iblk, V, origin t0_0],
    show iblk m c 5 t0_0 = m ((c.tc : Thread nD τ).loc main_arg5) from by blk_ext! [iblk, V, origin t0_0],
    show iblk m c 6 t0_0 = V m c main_call0_v1 from by blk_ext! [iblk, origin t0_0],
    show iblk m c 7 t0_0 = m ((c.tc : Thread nD τ).loc main_arg7) from by blk_ext! [iblk, V, origin t0_0]]

end Cert.KernelIdeal.Value

end
-- ==== Proof.Reference.lean ====
module

public import proofs.«01_k».proof.Proof.Gen.ReferenceIdeal.Run
public import proofs.«01_k».proof.Proof.Net
public import Idealize.ShloMosaic.Lib.Pointwise
public import Idealize.ShloMosaic.Lib.ReduceAll

/-! What the reference computes, entry by entry: the plain network. -/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Board

/-- The boards clipped to the range 0..15. -/
def clipped (X : IVec S16384x16 32) : IVec S16384x16 32 :=
  minsi (broadcastInDim S16384x16 ![] bcast_S_S16384x16 (id (constantI S_ 32 15#32)))
    (maxsi (broadcastInDim S16384x16 ![] bcast_S_S16384x16 (id (constantI S_ 32 0#32))) X)

/-- The row numbers the reference looks up: the clipped entries, negative ones wrapped. -/
def rowNumbers (X : IVec S16384x16 32) : IVec S16384x16x1 32 :=
  broadcastInDim S16384x16x1 ![0, 1] bcast_S16384x16_S16384x16x1_0_1
    (select (cmpi .slt (clipped X) (broadcastInDim S16384x16 ![] bcast_S_S16384x16 (constantI S_ 32 0#32)))
      (addi (clipped X) (broadcastInDim S16384x16 ![] bcast_S_S16384x16 (constantI S_ 32 16#32))) (clipped X))

/-- Whether each row number is one of the table's. -/
def inTable (r : IVec S16384x16x1 32) : IVec S16384x16x1 1 :=
  andi (cmpi .sge r (broadcastInDim S16384x16x1 ![] bcast_S_S16384x16x1 (constantI S_ 32 0#32)))
    (cmpi .sle r (broadcastInDim S16384x16x1 ![0, 1, 2] bcast_S1x1x1_S16384x16x1_0_1_2
      (broadcastInDim S1x1x1 ![2] bcast_S1_S1x1x1_2 (constantI S1 32 15#32))))

/-- The embedded boards: the table's rows, a not-a-number where a row number is not one of the table's. -/
def embedded (X : IVec S16384x16 32) (T : FVec Ideal S16x32 .f32) : FVec Ideal S16384x16x32 .f32 :=
  select (broadcastInDim S16384x16x32 ![0, 1] bcast_S16384x16_S16384x16x32_0_1
      (Host.reduce IntOp.andi (inTable (rowNumbers X)) (constantI S_ 1 1#1) reducesTo_S16384x16x1_S16384x16_d2 h_S_))
    (Host.gather gather_S16x32_S16384x16x1_S16384x16x32_2_0_n_n_0_2_132 T (rowNumbers X))
    (broadcastInDim S16384x16x32 ![] bcast_S_S16384x16x32 (constant S_ .f32 0x7FC00000#32))

/-- The three layers over embedded boards. -/
def layers (E : FVec Ideal S16384x16x32 .f32) (W1 : FVec Ideal S512x256 .f32) (b1 : FVec Ideal S256 .f32)
    (W2 : FVec Ideal S256x256 .f32) (b2 : FVec Ideal S256 .f32) (W3 : FVec Ideal S256x4 .f32) (b3 : FVec Ideal S4 .f32) :
    FVec Ideal S16384x4 .f32 :=
  addf (Host.dotGeneral dot_S16384x256_S256x4_S16384x4_1_0_0_1_n_n none
      (maximumf (addf (Host.dotGeneral dot_S16384x256_S256x256_S16384x256_1_0_0_1_n_n none
          (maximumf (addf (Host.dotGeneral dot_S16384x512_S512x256_S16384x256_1_0_0_1_n_n none
              (shapeCast _ E shapeCasts_S16384x16x32_S16384x512) W1)
            (broadcastInDim S16384x256 ![0, 1] bcast_S1x256_S16384x256_0_1 (broadcastInDim S1x256 ![1] bcast_S256_S1x256_1 b1)))
            (broadcastInDim S16384x256 ![] bcast_S_S16384x256 (constant S_ .f32 0x00000000#32))) W2)
          (broadcastInDim S16384x256 ![0, 1] bcast_S1x256_S16384x256_0_1 (broadcastInDim S1x256 ![1] bcast_S256_S1x256_1 b2)))
        (broadcastInDim S16384x256 ![] bcast_S_S16384x256 (constant S_ .f32 0x00000000#32))) W3)
    (broadcastInDim S16384x4 ![0, 1] bcast_S1x4_S16384x4_0_1 (broadcastInDim S1x4 ![1] bcast_S4_S1x4_1 b3))

/-- The reference's result is the layers over the embedded boards. -/
theorem result_eq (m : (ℓ : Loc nD τ sig) → Buf (Elt Ideal) ℓ) (c : Dev nD) :
    res_out0 m c = layers (embedded (m ((c.tc : Thread nD τ).loc main_arg0)) (m ((c.tc : Thread nD τ).loc main_arg1)))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7)) := rfl

/-- A row number is the clipped entry. -/
theorem rowNumbers_at (X : IVec S16384x16 32) (i : S16384x16x1.Idx) : rowNumbers X i = clip (X (ix2 (i 0) (i 1))) := by
  refine Eq.trans ?_ (wrap _)
  pointwise [rowNumbers, clipped]
  rfl

/-- Every row number is one of the table's. -/
theorem inTable_at (X : IVec S16384x16 32) (i : S16384x16x1.Idx) : inTable (rowNumbers X) i = 1#1 := by
  refine Eq.trans ?_ (inRange (X (ix2 (i 0) (i 1))))
  pointwise [inTable]
  rw [rowNumbers_at]

/-- The lookup's dimension numbers, named shortly. -/
abbrev rowDims : GatherDims S16x32 S16384x16x1 S16384x16x32 := gather_S16x32_S16384x16x1_S16384x16x32_2_0_n_n_0_2_132

/-- The lookup of rows, entry by entry: lane `i 2` of the row whose number stands at `(i 0, i 1)`, held to the table. -/
theorem gather_at (T : FVec Ideal S16x32 .f32) (r : IVec S16384x16x1 32) (i : S16384x16x32.Idx) :
    Host.gather rowDims T r i = T (ix2 ⟨min (r (ix3 (i 0) (i 1) 0)).toInt.toNat (16 - 1), by omega⟩ (i 2)) := by
  have numberAt : rowDims.siIdx i ⟨0, by decide⟩ = ix3 (i 0) (i 1) 0 := by
    funext b
    match b with
    | ⟨0, _⟩ => rfl
    | ⟨1, _⟩ => rfl
    | ⟨2, _⟩ => rfl
  unfold Host.gather
  refine congrArg T (funext fun a => Fin.ext ?_)
  match a with
  | ⟨0, _⟩ =>
    show rowDims.start i r 0 + rowDims.batchCoord i 0 + rowDims.offCoord i 0 = _
    rw [rowDims.batchCoord_eq_zero _ _ (by decide), rowDims.offCoord_eq_zero _ _ (by decide)]
    unfold GatherDims.start
    rw [dif_pos (by decide : (0 : Fin 2) ∈ rowDims.startIndexMap)]
    exact congrArg (fun k => min (r k).toInt.toNat (16 - 1)) numberAt
  | ⟨1, _⟩ =>
    show rowDims.start i r 1 + rowDims.batchCoord i 1 + rowDims.offCoord i 1 = _
    rw [rowDims.batchCoord_eq_zero _ _ (by decide), show rowDims.start i r 1 = 0 from dif_neg (by decide)]
    unfold GatherDims.offCoord
    rw [dif_pos (by decide : (1 : Fin 2) ∈ rowDims.sKept)]
    exact (congrArg (· + _) (Nat.add_zero 0)).trans (Nat.zero_add _)

/-- A selection whose condition holds everywhere is its first operand. -/
theorem selected (b : IVec S16384x16 1) (x y : FVec Ideal S16384x16x32 .f32) (h : ∀ j, b j = 1#1) (i : S16384x16x32.Idx) :
    select (broadcastInDim S16384x16x32 ![0, 1] bcast_S16384x16_S16384x16x32_0_1 b) x y i = x i := by
  pointwise
  rw [h]
  rfl

/-- An embedded board's lane is the table's, in the row of the clipped entry. -/
theorem embedded_at (X : IVec S16384x16 32) (T : FVec Ideal S16x32 .f32) (i : S16384x16x32.Idx) :
    embedded X T i = T (ix2 (code (X (ix2 (i 0) (i 1)))) (i 2)) := by
  refine (selected _ _ _ (fun j => Host.reduce_andi_one _ _ _ _ j rfl (inTable_at X)) i).trans
    ((gather_at T (rowNumbers X) i).trans ?_)
  exact congrArg (fun v : Fin 16 => T (ix2 v (i 2))) (Fin.ext
    ((congrArg (fun w : BitVec 32 => min w.toInt.toNat (16 - 1)) (rowNumbers_at X (ix3 (i 0) (i 1) 0))).trans (row _)))

/-- THE REFERENCE, entry by entry: the plain network on the arguments. -/
theorem result_at (X : IVec S16384x16 32) (T : FVec Ideal S16x32 .f32) (W1 : FVec Ideal S512x256 .f32)
    (b1 : FVec Ideal S256 .f32) (W2 : FVec Ideal S256x256 .f32) (b2 : FVec Ideal S256 .f32) (W3 : FVec Ideal S256x4 .f32)
    (b3 : FVec Ideal S4 .f32) (i : S16384x4.Idx) :
    layers (embedded X T) W1 b1 W2 b2 W3 b3 i
      = Net.last (Net.second (Net.first (fun n p => X (ix2 n p)) (fun v e => T (ix2 v e)) (fun k j => W1 (ix2 k j))
          fun j => b1 (ix1 j)) (fun k j => W2 (ix2 k j)) fun j => b2 (ix1 j)) (fun k j => W3 (ix2 k j))
          (fun j => b3 (ix1 j)) (i 0) (i 1) := by
  pointwise [layers]
  simp only [embedded_at]
  rfl

end Cert.ReferenceIdeal.Value

end
-- ==== Proof.Equation.lean ====
module

public import proofs.«01_k».proof.Proof.Final
public import proofs.«01_k».proof.Proof.Reference

/-! The equation: the array the kernel returns is the array the reference returns, from the same arguments. -/

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The boards reach the body turned on their side. -/
theorem boards_in : V m c main_call0_v0
    = transpose S16x16384 [1, 0] (m ((c.tc : Thread nD τ).loc main_arg0)) transposes_S16384x16_S16x16384_1_0 := by
  unfold V V0
  rw [List.flatten_singleton]
  after_results
  rfl

/-- The last layer's weights reach the body turned on their side. -/
theorem weights_in : V m c main_call0_v1
    = transpose S4x256 [1, 0] (m ((c.tc : Thread nD τ).loc main_arg6)) transposes_S256x4_S4x256_1_0 := by
  unfold V V0
  rw [List.flatten_singleton]
  after_results
  rfl

/-- What the kernel returns is the body's array turned back. -/
theorem result_out : Pipeline.afterTail₀ cfgs (dats m) 0 (V0 m) [hostOps1] c main_v0
    = transpose S16384x4 [1, 0] ((dats m 0 c).arrAt 8 (cfgs 0).N) transposes_S4x16384_S16384x4_1_0 := by
  unfold Pipeline.afterTail₀
  rw [List.flatten_singleton]
  after_results
  exact congrArg (transpose S16384x4 [1, 0] · transposes_S4x16384_S16384x4_1_0)
    (Pipeline.withArrays_arr spec0 winFacts0.arr_inj c (V0 m c) (fun w => (dats m 0 c).arrAt w (cfgs 0).N) 8)

/-- Turned in and turned back, the body's result is the network of the arrays as the caller gave them. -/
theorem turned_at (X : Vec Ideal S16384x16 .i32) (T : Vec Ideal S16x32 .f32) (W1 : Vec Ideal S512x256 .f32)
    (b1 : Vec Ideal S256 .f32) (W2 : Vec Ideal S256x256 .f32) (b2 : Vec Ideal S256 .f32) (W3 : Vec Ideal S256x4 .f32)
    (b3 : Vec Ideal S4 .f32) (i : S16384x4.Idx) :
    transpose S16384x4 [1, 0]
        (bodyOut (transpose S16x16384 [1, 0] X transposes_S16384x16_S16x16384_1_0) T W1 b1 W2 b2
          (transpose S4x256 [1, 0] W3 transposes_S256x4_S4x256_1_0) b3) transposes_S4x16384_S16384x4_1_0 i
      = Net.last (Net.second (Net.first (fun n p => X (ix2 n p)) (fun v e => T (ix2 v e)) (fun k j => W1 (ix2 k j))
          fun j => b1 (ix1 j)) (fun k j => W2 (ix2 k j)) fun j => b2 (ix1 j)) (fun k j => W3 (ix2 k j))
          (fun j => b3 (ix1 j)) (i 0) (i 1) := by
  have hX : (fun n p => transpose S16x16384 [1, 0] X transposes_S16384x16_S16x16384_1_0 (ix2 p n))
      = fun n p => X (ix2 n p) := by
    funext n p
    pointwise
  have hW : (fun k j => transpose S4x256 [1, 0] W3 transposes_S256x4_S4x256_1_0 (ix2 j k))
      = fun k j => W3 (ix2 k j) := by
    funext k j
    pointwise
  have h := body_at (transpose S16x16384 [1, 0] X transposes_S16384x16_S16x16384_1_0) T W1 b1 W2 b2
    (transpose S4x256 [1, 0] W3 transposes_S256x4_S4x256_1_0) b3 (ix2 (i 1) (i 0))
  rw [hX, hW] at h
  refine Eq.trans ?_ h
  generalize bodyOut _ _ _ _ _ _ _ _ = Y
  pointwise

/-- THE EQUATION: from the same arguments the kernel's returned array is the reference's. -/
theorem same_result : Pipeline.afterTail₀ cfgs (dats m) 0 (V0 m) [hostOps1] c main_v0
    = ReferenceIdeal.Value.layers (ReferenceIdeal.Value.embedded (m ((c.tc : Thread nD τ).loc main_arg0))
        (m ((c.tc : Thread nD τ).loc main_arg1))) (m ((c.tc : Thread nD τ).loc main_arg2))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) := by
  rw [result_out, final, boards_in, weights_in]
  funext i
  exact (turned_at _ _ _ _ _ _ _ _ i).trans (ReferenceIdeal.Value.result_at _ _ _ _ _ _ _ _ i).symm

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The value claim: the kernel and the reference, from the same arguments, return the same array, and neither changes
    an argument. -/
theorem value [Cert.KernelIdeal.Facts] [Cert.ReferenceIdeal.Facts] : Cert.algebraic_KernelIdeal_ReferenceIdeal := by
  intro m g m' g' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v0, ?_, ?_⟩
  · exact (θ_run _ _ _).mono (fun _ h c => ⟨(h.2 c).2 Cert.KernelIdeal.main_v0 (by decide), h.1 c⟩)
      (θ_run_and (Cert.KernelIdeal.Gen.unchanged m g) (Cert.KernelIdeal.Gen.run_main m g))
  · refine (θ_run _ _ _).mono (fun _ h c => ⟨(h c).1.trans ?_, (h c).2⟩) (Cert.ReferenceIdeal.Value.run m' g')
    obtain ⟨h0, h1, h2, h3, h4, h5, h6, h7⟩ := hagree c
    refine (Cert.ReferenceIdeal.Value.result_eq m' c).trans ?_
    rw [h0, h1, h2, h3, h4, h5, h6, h7]
    exact (Cert.KernelIdeal.Value.same_result m c).symm

/-- The reference ends with its arguments as they were, and with every counter at zero since it has none. -/
theorem reference_ends [Cert.ReferenceIdeal.Facts] : Cert.quiescent_ReferenceIdeal := by
  intro m g _
  exact (θ_run _ _ _).mono (fun r h => ⟨fun c => (h c).2, sem_eq_zero_of_no_sems (by decide) r.2⟩)
    (Cert.ReferenceIdeal.Value.run m g)

/-- Every claim of the certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_ends, trivial, value⟩

end Cert.Proof

end
